-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2x20 : Shape := ⟨2, ![2, 20]⟩
abbrev S512x2048 : Shape := ⟨2, ![512, 2048]⟩
abbrev S2048x2048 : Shape := ⟨2, ![2048, 2048]⟩
abbrev S512x256 : Shape := ⟨2, ![512, 256]⟩
abbrev S1x1 : Shape := ⟨2, ![1, 1]⟩
abbrev S512x512 : Shape := ⟨2, ![512, 512]⟩
abbrev S256x512 : Shape := ⟨2, ![256, 512]⟩
abbrev S512x1 : Shape := ⟨2, ![512, 1]⟩
abbrev S512 : Shape := ⟨1, ![512]⟩
abbrev S1x512 : Shape := ⟨2, ![1, 512]⟩

abbrev nBuf : Space → Nat
  | .hbm => 8
  | .vmem => 8
  | .smem => 1
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x2048, .f32⟩
  | .hbm, ⟨4, _⟩ => ⟨S2048x2048, .i32⟩
  | .hbm, ⟨5, _⟩ => ⟨S2048x2048, .i32⟩
  | .hbm, ⟨6, _⟩ => ⟨S2048x2048, .i1⟩
  | .hbm, ⟨7, _⟩ => ⟨S2048x2048, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .smem, ⟨0, _⟩ => ⟨S2x20, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def cc0_transform_0 (k0_off1_inb : ∀ i : grid0.Coords, ∀ a, (k0_off1 i) a + S1x1.size a ≤ S2x20.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S2x20) ![0, v0.toNat] S1x1.size (k0_off1_inb i)) numel1_S1x1
  let c0_i32 : BitVec 32 := 0#32
  let c0_i32_0 : BitVec 32 := 0#32
  ![c0_i32.toNat, v1.toNat]

def cc0_transform_1 (k0_off2_inb : ∀ i : grid0.Coords, ∀ a, (k0_off2 i) a + S1x1.size a ≤ S2x20.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S2x20) ![1, v0.toNat] S1x1.size (k0_off2_inb i)) numel1_S1x1
  let c0_i32 : BitVec 32 := 0#32
  let c0_i32_0 : BitVec 32 := 0#32
  ![c0_i32.toNat, v1.toNat]

def cc0_transform_2 (k0_off1_inb : ∀ i : grid0.Coords, ∀ a, (k0_off1 i) a + S1x1.size a ≤ S2x20.size a) (numel1_S1x1 : S1x1.numel = 1) (k0_off2_inb : ∀ i : grid0.Coords, ∀ a, (k0_off2 i) a + S1x1.size a ≤ S2x20.size a) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S2x20) ![0, v0.toNat] S1x1.size (k0_off1_inb i)) numel1_S1x1
  let c1 : Index := 1#32
  let v2 : Index := Scalar.indexCast arg0
  let v3 : BitVec 32 := pf.at 0 (Rect.unit (s := S2x20) ![1, v2.toNat] S1x1.size (k0_off2_inb i)) numel1_S1x1
  let c0_i32 : BitVec 32 := 0#32
  ![v1.toNat, v3.toNat]

def cc0_transform_3 (k0_off2_inb : ∀ i : grid0.Coords, ∀ a, (k0_off2 i) a + S1x1.size a ≤ S2x20.size a) (numel1_S1x1 : S1x1.numel = 1) (k0_off1_inb : ∀ i : grid0.Coords, ∀ a, (k0_off1 i) a + S1x1.size a ≤ S2x20.size a) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S2x20) ![1, v0.toNat] S1x1.size (k0_off2_inb i)) numel1_S1x1
  let c0 : Index := 0#32
  let v2 : Index := Scalar.indexCast arg0
  let v3 : BitVec 32 := pf.at 0 (Rect.unit (s := S2x20) ![0, v2.toNat] S1x1.size (k0_off1_inb i)) numel1_S1x1
  let c0_i32 : BitVec 32 := 0#32
  ![v1.toNat, v3.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x512 : Shape := ⟨2, ![2048, 512]⟩
abbrev S_ : Shape := ⟨0, ![]⟩
abbrev S2048x2048 : Shape := ⟨2, ![2048, 2048]⟩
abbrev S1x512 : Shape := ⟨2, ![1, 512]⟩
abbrev S512 : Shape := ⟨1, ![512]⟩
abbrev S2048 : Shape := ⟨1, ![2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S_, .f32⟩
  | .hbm, ⟨2, _⟩ => ⟨S2048x2048, .f32⟩
  | .hbm, ⟨3, _⟩ => ⟨S_, .i32⟩
  | .hbm, ⟨4, _⟩ => ⟨S2048x512, .f32⟩
  | .hbm, ⟨5, _⟩ => ⟨S2048x512, .f32⟩
  | .hbm, ⟨6, _⟩ => ⟨S_, .i32⟩
  | .hbm, ⟨7, _⟩ => ⟨S2048x2048, .f32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S_, .i32⟩
  | .hbm, ⟨21, _⟩ => ⟨S2048x2048, .f32⟩
  | .hbm, ⟨22, _⟩ => ⟨S_, .i32⟩
  | .hbm, ⟨23, _⟩ => ⟨S_, .i32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_while0c_c_3 : Ref sig .tc := ⟨.hbm, 8, rfl⟩
abbrev main_while0c_v2 : Ref sig .tc := ⟨.hbm, 9, rfl⟩
abbrev main_while0b_call0_c : Ref sig .tc := ⟨.hbm, 10, rfl⟩
abbrev main_while0b_call0_v0 : Ref sig .tc := ⟨.hbm, 11, rfl⟩
abbrev main_while0b_v2 : Ref sig .tc := ⟨.hbm, 12, rfl⟩
abbrev main_while0b_v3 : Ref sig .tc := ⟨.hbm, 13, rfl⟩
abbrev main_while0b_v4 : Ref sig .tc := ⟨.hbm, 14, rfl⟩
abbrev main_while0b_v5 : Ref sig .tc := ⟨.hbm, 15, rfl⟩
abbrev main_while0b_v6 : Ref sig .tc := ⟨.hbm, 16, rfl⟩
abbrev main_while0b_cst_3 : Ref sig .tc := ⟨.hbm, 17, rfl⟩
abbrev main_while0b_v7 : Ref sig .tc := ⟨.hbm, 18, rfl⟩
abbrev main_while0b_call1_v0 : Ref sig .tc := ⟨.hbm, 19, rfl⟩
abbrev main_while0b_call1_c : Ref sig .tc := ⟨.hbm, 20, rfl⟩
abbrev main_while0b_v8 : Ref sig .tc := ⟨.hbm, 21, rfl⟩
abbrev main_while0b_c_4 : Ref sig .tc := ⟨.hbm, 22, rfl⟩
abbrev main_while0b_v9 : Ref sig .tc := ⟨.hbm, 23, rfl⟩

abbrev nD : Nat := 1
abbrev τ : Topo := Topo.v7x

variable {F : FTy → Type} [FloatOps F]

abbrev main_while0_count : Scf.Loop 32 := ⟨0#32, 2048#32, 1#32⟩
-- ==== Proof.KernelTable.lean ====
module

public import proofs.«01_k».proof.Proof.Gen.Kernel.Frame
public import Idealize.ShloMosaic.PureOps.BitExact
public import Idealize.ShloMosaic.Lib.StableHlo.RunRead

@[expose] public section

set_option maxRecDepth 16384

noncomputable section

namespace Cert.Kernel.Table

open Idealize.ShloMosaic Idealize.ShloMosaic.TcCoe Idealize.SL.Sem
open Cert.Kernel Cert.Kernel.Gen

/-- The table the kernel prefetches: the printed constant, which lists the visited block pairs. -/
def tab : pre0.Contents (Elt Bits) := fun
  | 0 => fun i => lit0 (S2x20.rowMajor i)

/-- Every block the table names lies inside its array. -/
theorem tab_ok : ok0 tab := by decide +kernel

variable (m : (ℓ : Loc nD τ sig) → Buf (Elt Bits) ℓ)

/-- The host lines before the kernel write the printed constant to the table's buffer. -/
theorem table_entry : V0 m 0 (Proc.devRef .tc main_c) = fun i => lit0 (S2x20.rowMajor i) := by
  show StableHlo.after hostOps0 _ _ = _
  after_results
  rfl

/-- The kernel region finds the table at the printed constant, whatever the launch memory held. -/
theorem tbl_eq : tbl m = tab := by
  funext j
  obtain rfl : j = 0 := Subsingleton.elim _ _
  exact table_entry m

/-- So the pipeline's side condition on its table holds from every launch memory. -/
theorem ok : Ok m := by
  show ok0 (tbl m)
  rw [tbl_eq]
  exact tab_ok

end Cert.Kernel.Table

end
-- ==== Proof.Dist.lean ====
module

public import Idealize.ShloMosaic.PureOps.Ideal
public import Idealize.ShloMosaic.PureOps.Ideal.Laws

@[expose] public section

noncomputable section

namespace Cert.Dist

open Idealize.ShloMosaic

/-- The absolute difference of two extended reals, as the ideal operations spell it. -/
def gap (a b : EReal) : EReal := max (a - b) (-(a - b))

/-- Swapping the two numbers changes nothing: at finite numbers the difference only changes sign, and at the
    infinities both orders give the same infinity. -/
theorem gap_comm (a b : EReal) : gap a b = gap b a := by
  unfold gap
  induction a <;> induction b <;> try rfl
  rename_i x y
  rw [← EReal.coe_sub, ← EReal.coe_sub, ← EReal.coe_neg, ← EReal.coe_neg, neg_sub, neg_sub, max_comm]

/-- The largest absolute difference of two vectors of 512 numbers, the maximum taken from minus infinity. -/
def linf (u v : Fin 512 → EReal) : EReal :=
  (Finset.univ : Finset (Fin 512)).fold max (Ideal.ofBits .f32 0xFF800000#32) fun k => gap (u k) (v k)

/-- The largest absolute difference does not depend on the order of the two vectors. -/
theorem linf_comm (u v : Fin 512 → EReal) : linf u v = linf v u := by
  unfold linf
  exact congrArg (fun f => Finset.fold max (Ideal.ofBits .f32 0xFF800000#32) f (Finset.univ : Finset (Fin 512)))
    (funext fun k => gap_comm (u k) (v k))

end Cert.Dist

end
-- ==== Proof.Block.lean ====
module

public import proofs.«01_k».proof.Proof.Gen.KernelIdeal.Frame
public import proofs.«01_k».proof.Proof.Dist
public import Idealize.ShloMosaic.Lib.Pointwise
public import Idealize.ShloMosaic.Lib.WritesUnit
public import Idealize.ShloMosaic.Lib.WholeRead

@[expose] public section

set_option maxRecDepth 16384

noncomputable section

namespace Cert.KernelIdeal.Block

open Idealize.ShloMosaic Idealize.ShloMosaic.TcCoe Idealize.SL.Sem
open Cert.KernelIdeal Cert.KernelIdeal.Gen Cert.Dist

section Rows

variable {F : FTy → Type} [FloatOps F]

/-- One row of the block fits the block of 256 rows. -/
theorem row_fits (r : Fin 256) (a : Fin S256x512.rank) : (![r.val, 0] : Fin 2 → ℕ) a + S1x512.size a ≤ S256x512.size a := by
  have := r.isLt
  fin_cases a <;> simp [S1x512, S256x512] <;> omega

/-- One column of the left operand's block fits the block of 256 columns. -/
theorem col_fits (r : Fin 256) (a : Fin S512x256.rank) : (![0, r.val] : Fin 2 → ℕ) a + S512x1.size a ≤ S512x256.size a := by
  have := r.isLt
  fin_cases a <;> simp [S512x1, S512x256] <;> omega

/-- What the body computes for one row from the right operand's block and one column of the left operand's:
    the column spread along the rows, subtracted, made absolute, and the maximum down the columns. -/
def rowOf (b : Vec F S512x512 .f32) (col : Vec F S512x1 .f32) : FVec F S1x512 .f32 :=
  k0_pay7 b col

/-- The row the body stores at row `r`, from the two staged blocks. -/
def rowAt (arg2 : Memref sig .tc .vmem S512x256 .f32) (harg2 : arg2.IsWhole) (arg3 : Memref sig .tc .vmem S512x512 .f32)
    (harg3 : arg3.IsWhole) (x0 : Vec F S512x256 .f32) (x1 : Vec F S512x512 .f32) (r : Fin 256) : FVec F S1x512 .f32 :=
  rowOf (View.readAt (Elt F) arg3.view (Rect.unit (s := S512x512) ![0, 0] S512x512.size inb_S512x512_S512x512_0_0).toLoadRect (harg3.unread x1))
    (View.readAt (Elt F) arg2.view (Rect.unit (s := S512x256) ![0, r.val] S512x1.size (col_fits r)).toLoadRect (harg2.unread x0))

/-- The body's 256 stores into the first output are one family: row `r` at row `r`, the last row first. -/
theorem pieces_eq (c : Dev nD) (i : grid0.Coords) (arg2 : Memref sig .tc .vmem S512x256 .f32) (harg2 : arg2.IsWhole)
    (arg3 : Memref sig .tc .vmem S512x512 .f32) (harg3 : arg3.IsWhole) (arg4 : Memref sig .tc .vmem S256x512 .f32)
    (harg4 : arg4.IsWhole) (arg5 : Memref sig .tc .vmem S512x256 .f32) (harg5 : arg5.IsWhole)
    (x0 : Vec F S512x256 .f32) (x1 : Vec F S512x512 .f32) (xt0 : TbBuf0 (F := F) c tbM0_0) :
    (kernelRun0_A c i arg2 harg2 arg3 harg3 arg4 harg4 arg5 harg5 x0 x1 xt0).1
      = View.tilePieces (s := S256x512) S1x512.size (fun r : Fin 256 => ![r.val, 0]) row_fits
          (rowAt arg2 harg2 arg3 harg3 x0 x1) 256 le_rfl := by
  sl_kernel_rfl

end Rows

/-- One stored row at a column: the largest absolute difference of the right operand's column and the left's. -/
theorem rowOf_apply (b : Vec Ideal S512x512 .f32) (col : Vec Ideal S512x1 .f32) (x : S1x512.Idx) :
    rowOf b col x = linf (fun k => b (ix2 k (x 1))) fun k => col (ix2 k 0) := by
  unfold rowOf
  pointwise [k0_pay7, k0_pay6]
  rfl

/-- The stored row `r` at a column, in terms of the contents of the two staged blocks. -/
theorem rowAt_apply (arg2 : Memref sig .tc .vmem S512x256 .f32) (harg2 : arg2.IsWhole)
    (arg3 : Memref sig .tc .vmem S512x512 .f32) (harg3 : arg3.IsWhole) (x0 : Vec Ideal S512x256 .f32)
    (x1 : Vec Ideal S512x512 .f32) (r : Fin 256) (x : S1x512.Idx) :
    rowAt arg2 harg2 arg3 harg3 x0 x1 r x = linf (fun k => x1 (ix2 k (x 1))) fun k => x0 (ix2 k r) := by
  unfold rowAt
  rw [rowOf_apply]
  congr 1
  · funext k
    rw [harg3.readAt_unread]
    pointwise
  · funext k
    rw [harg2.readAt_unread]
    pointwise

/-- Reading the first output's 256 stored rows back, through any view and over any earlier contents. -/
theorem read_rows {sig' : RefSig} {κ : Kind} {sp : Space} (v : View sig' κ sp S256x512 .f32)
    (f : v.ty.Contents (Elt Ideal)) (arg2 : Memref sig .tc .vmem S512x256 .f32) (harg2 : arg2.IsWhole)
    (arg3 : Memref sig .tc .vmem S512x512 .f32) (harg3 : arg3.IsWhole) (x0 : Vec Ideal S512x256 .f32)
    (x1 : Vec Ideal S512x512 .f32) (j : S256x512.Idx) :
    v.read (Elt Ideal) (v.writes (Elt Ideal) f (View.tilePieces (s := S256x512) S1x512.size
        (fun r : Fin 256 => ![r.val, 0]) row_fits (rowAt arg2 harg2 arg3 harg3 x0 x1) 256 le_rfl)) j
      = linf (fun k => x1 (ix2 k (j 1))) fun k => x0 (ix2 k (j 0)) := by
  refine (View.read_tilePieces v f _ _ _ _ 256 le_rfl j (j 0) (j 0).isLt (ix2 (0 : Fin 1) (j 1)) ?_ 0 ?_).trans
    (rowAt_apply arg2 harg2 arg3 harg3 x0 x1 (j 0) _)
  · intro a
    match a with
    | ⟨0, _⟩ => rfl
    | ⟨1, _⟩ => exact (Nat.zero_add _).symm
  · intro r hr
    have hne : r.val ≠ (j 0).val := fun h => hr (Fin.ext h)
    show (j 0).val < r.val ∨ r.val + 1 ≤ (j 0).val
    omega

section Outputs

variable (c : Dev nD) (i : grid0.Coords) (arg2 : Memref sig .tc .vmem S512x256 .f32) (harg2 : arg2.IsWhole)
  (arg3 : Memref sig .tc .vmem S512x512 .f32) (harg3 : arg3.IsWhole) (arg4 : Memref sig .tc .vmem S256x512 .f32)
  (harg4 : arg4.IsWhole) (arg5 : Memref sig .tc .vmem S512x256 .f32) (harg5 : arg5.IsWhole)
  (x0 : Vec Ideal S512x256 .f32) (x1 : Vec Ideal S512x512 .f32) (xt0 : TbBuf0 (F := Ideal) c tbM0_0)

/-- THE FIRST OUTPUT'S BLOCK: at row `a` and column `b` the largest absolute difference of the right operand's
    column `b` and the left operand's column `a`. -/
theorem upper_apply (j : S256x512.Idx) :
    out0_A_2 c i arg2 harg2 arg3 harg3 arg4 harg4 arg5 harg5 x0 x1 xt0 j
      = linf (fun k => x1 (ix2 k (j 1))) fun k => x0 (ix2 k (j 0)) := by
  unfold out0_A_2
  rw [pieces_eq]
  exact read_rows _ _ arg2 harg2 arg3 harg3 x0 x1 j

/-- THE SECOND OUTPUT'S BLOCK is the first one transposed. -/
theorem lower_apply (j : S512x256.Idx) :
    out0_A_3 c i arg2 harg2 arg3 harg3 arg4 harg4 arg5 harg5 x0 x1 xt0 j
      = linf (fun k => x1 (ix2 k (j 0))) fun k => x0 (ix2 k (j 1)) := by
  have hL : (kernelRun0_A c i arg2 harg2 arg3 harg3 arg4 harg4 arg5 harg5 x0 x1 xt0).2.1
      = [⟨Rect.unit ![0, 0] ![512, 256] inb_S512x256_S512x256_0_0,
          k0_pay5 (arg4.view.readCov (kernelRun0_A c i arg2 harg2 arg3 harg3 arg4 harg4 arg5 harg5 x0 x1 xt0).1
            (Rect.unit ![0, 0] ![256, 512] inb_S256x512_S256x512_0_0).toLoadRect)⟩] := rfl
  unfold out0_A_3
  rw [hL, pieces_eq]
  refine (View.read_writes_cons_hit_of_coords _ _ _ _ _ j j ?_).trans ?_
  · intro a
    match a with
    | ⟨0, _⟩ => simp
    | ⟨1, _⟩ => simp
  · have ht : ∀ w : Vec Ideal S256x512 .f32, k0_pay5 w j = w (ix2 (j 1) (j 0)) := fun w => by pointwise [k0_pay5]
    refine (ht _).trans ((read_rows arg4.view arg4.view.junk arg2 harg2 arg3 harg3 x0 x1 _).trans ?_)
    congr 1
    · funext k
      exact congrArg x1 (funext fun a => Fin.ext (by match a with | ⟨0, _⟩ => rfl | ⟨1, _⟩ => simp [LoadRect.idx]))
    · funext k
      exact congrArg x0 (funext fun a => Fin.ext (by match a with | ⟨0, _⟩ => rfl | ⟨1, _⟩ => simp [LoadRect.idx]))

end Outputs

end Cert.KernelIdeal.Block

end
-- ==== Proof.Table.lean ====
module

public import proofs.«01_k».proof.Proof.Gen.KernelIdeal.Frame
public import Idealize.ShloMosaic.PureOps.Ideal
public import Idealize.ShloMosaic.Lib.Pipeline.ValueKit.Partial
public import Idealize.ShloMosaic.Lib.StableHlo.RunRead

@[expose] public section

set_option maxRecDepth 16384

noncomputable section

namespace Cert.KernelIdeal.Table

open Idealize.ShloMosaic Idealize.ShloMosaic.TcCoe Idealize.SL.Sem
open Cert.KernelIdeal Cert.KernelIdeal.Gen

/-- The table the kernel prefetches: the printed constant, which lists the visited block pairs. -/
def tab : pre0.Contents (Elt Ideal) := fun
  | 0 => fun i => lit0 (S2x20.rowMajor i)

/-- Every block the table names lies inside its array. -/
theorem tab_ok : ok0 tab := by decide +kernel

variable (m : (ℓ : Loc nD τ sig) → Buf (Elt Ideal) ℓ)

/-- The host lines before the kernel write the printed constant to the table's buffer. -/
theorem table_entry : V0 m 0 (Proc.devRef .tc main_c) = fun i => lit0 (S2x20.rowMajor i) := by
  show StableHlo.after hostOps0 _ _ = _
  after_results
  rfl

/-- The kernel region finds the table at the printed constant, whatever the launch memory held. -/
theorem tbl_eq : tbl m = tab := by
  funext j
  obtain rfl : j = 0 := Subsingleton.elim _ _
  exact table_entry m

/-- So the pipeline's side condition on its table holds from every launch memory. -/
theorem ok : Ok m := by
  show ok0 (tbl m)
  rw [tbl_eq]
  exact tab_ok

/-- The pipeline at the printed table. -/
abbrev admT : (pcfg0 (F := Ideal)).Adm := ⟨tab, tab_ok⟩

/-- The pipeline the launch runs is the one at the printed table. -/
theorem adm_eq (hO : Ok m) : adm m hO = admT := Subtype.ext (tbl_eq m)

/-- The first output window's written blocks at the printed table are the block pairs `(i, j)` with `i / 2 ≤ j`. -/
theorem covers_u : ((cfg0 admT).win 2).CoversWhere (fun β => β (0 : Fin 2) / 2 ≤ β (1 : Fin 2)) := by
  decide +kernel

/-- The second output window's written blocks at the printed table are the transposed pairs. -/
theorem covers_l : ((cfg0 admT).win 3).CoversWhere (fun β => β (1 : Fin 2) / 2 ≤ β (0 : Fin 2)) := by
  decide +kernel

/-- At every point the four windows name blocks by the same two table words: the left operand's block column is the
    first output's block row, the right operand's block column the first output's block column, and the second output
    has the two exchanged. -/
theorem index_eq (t : Fin (cfg0 admT).N) :
    ((cfg0 admT).win 0).index t = ![0, ((cfg0 admT).win 2).index t (0 : Fin 2)]
    ∧ ((cfg0 admT).win 1).index t = ![0, ((cfg0 admT).win 2).index t (1 : Fin 2)]
    ∧ ((cfg0 admT).win 3).index t = ![((cfg0 admT).win 2).index t (1 : Fin 2), ((cfg0 admT).win 2).index t (0 : Fin 2)] := by
  revert t
  decide +kernel

end Cert.KernelIdeal.Table

end
-- ==== Proof.Arrays.lean ====
module

public import proofs.«01_k».proof.Proof.Block
public import proofs.«01_k».proof.Proof.Table
public import Idealize.ShloMosaic.Lib.Pointwise

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Table Cert.KernelIdeal.Block Cert.Dist

variable (m : (ℓ : Loc nD τ sig) → Buf (Elt Ideal) ℓ)

/-- The first output window's written blocks, at the table the launch memory holds. -/
theorem covers_upper (hO : Ok m) : ((cfgM m hO).win 2).CoversWhere (fun β => β (0 : Fin 2) / 2 ≤ β (1 : Fin 2)) := by
  have h : ∀ a : (pcfg0 (F := Ideal)).Adm, a = admT → ((cfg0 a).win 2).CoversWhere (fun β => β (0 : Fin 2) / 2 ≤ β (1 : Fin 2)) := by
    rintro _ rfl
    exact covers_u
  exact h _ (adm_eq m hO)

/-- The second output window's written blocks, at the table the launch memory holds. -/
theorem covers_lower (hO : Ok m) : ((cfgM m hO).win 3).CoversWhere (fun β => β (1 : Fin 2) / 2 ≤ β (0 : Fin 2)) := by
  have h : ∀ a : (pcfg0 (F := Ideal)).Adm, a = admT → ((cfg0 a).win 3).CoversWhere (fun β => β (1 : Fin 2) / 2 ≤ β (0 : Fin 2)) := by
    rintro _ rfl
    exact covers_l
  exact h _ (adm_eq m hO)

/-- How the four windows' blocks are related at each point, at the table the launch memory holds. -/
theorem index_rel (hO : Ok m) (t : Fin (cfgM m hO).N) :
    ((cfgM m hO).win 0).index t = ![0, ((cfgM m hO).win 2).index t (0 : Fin 2)]
    ∧ ((cfgM m hO).win 1).index t = ![0, ((cfgM m hO).win 2).index t (1 : Fin 2)]
    ∧ ((cfgM m hO).win 3).index t = ![((cfgM m hO).win 2).index t (1 : Fin 2), ((cfgM m hO).win 2).index t (0 : Fin 2)] := by
  have h : ∀ (a : (pcfg0 (F := Ideal)).Adm) (t : Fin (cfg0 a).N), a = admT →
      ((cfg0 a).win 0).index t = ![0, ((cfg0 a).win 2).index t (0 : Fin 2)]
      ∧ ((cfg0 a).win 1).index t = ![0, ((cfg0 a).win 2).index t (1 : Fin 2)]
      ∧ ((cfg0 a).win 3).index t = ![((cfg0 a).win 2).index t (1 : Fin 2), ((cfg0 a).win 2).index t (0 : Fin 2)] := by
    rintro _ t rfl
    exact index_eq t
  exact h _ t (adm_eq m hO)

/-- The largest absolute difference of two columns of the transposed input. -/
def colGap (X : Vec Ideal S512x2048 .f32) (a b : Fin 2048) : EReal :=
  linf (fun k => X (ix2 k a)) fun k => X (ix2 k b)

/-- The block of columns the first input window holds at a point. -/
def left (hO : Ok m) (c : Dev nD) (t : Fin (cfgM m hO).N) : Vec Ideal S512x256 .f32 := iblk m hO c 0 t

/-- The block of columns the second input window holds at a point. -/
def right (hO : Ok m) (c : Dev nD) (t : Fin (cfgM m hO).N) : Vec Ideal S512x512 .f32 := iblk m hO c 1 t

/-- What the body leaves in the first output block at a point. -/
theorem upper_point (hO : Ok m) (c : Dev nD) (t : Fin (cfgM m hO).N) (y : S256x512.Idx) :
    (outsAt0 m hO c t).1 y = linf (fun k => right m hO c t (ix2 k (y 1))) fun k => left m hO c t (ix2 k (y 0)) := by
  unfold outsAt0
  dsimp only
  exact upper_apply c (grid0.coords t) (ms0_0 m hO t) (hs0_0 m hO t) (ms0_1 m hO t) (hs0_1 m hO t) (ms0_2 m hO t)
    (hs0_2 m hO t) (ms0_3 m hO t) (hs0_3 m hO t) (left m hO c t) (right m hO c t) (tbl m 0) y

/-- What the body leaves in the second output block at a point. -/
theorem lower_point (hO : Ok m) (c : Dev nD) (t : Fin (cfgM m hO).N) (y : S512x256.Idx) :
    (outsAt0 m hO c t).2 y = linf (fun k => right m hO c t (ix2 k (y 0))) fun k => left m hO c t (ix2 k (y 1)) := by
  unfold outsAt0
  dsimp only
  exact lower_apply c (grid0.coords t) (ms0_0 m hO t) (hs0_0 m hO t) (ms0_1 m hO t) (hs0_1 m hO t) (ms0_2 m hO t)
    (hs0_2 m hO t) (ms0_3 m hO t) (hs0_3 m hO t) (left m hO c t) (right m hO c t) (tbl m 0) y

/-- The first input block, entry by entry: columns of the transposed input at the first output block's row position. -/
theorem left_apply (hO : Ok m) (c : Dev nD) (t : Fin (cfgM m hO).N) (k : Fin 512) (j : Fin 256) (a : Fin 2048)
    (ha : a.val = ((cfgM m hO).win 2).index t (0 : Fin 2) * 256 + j.val) :
    left m hO c t (ix2 k j) = V m c main_v0 (ix2 k a) := by
  have h0 := (index_rel m hO t).1
  unfold left
  blk_ext [iblk, h0, ha]

/-- The second input block, entry by entry: columns of the transposed input at the first output block's column position. -/
theorem right_apply (hO : Ok m) (c : Dev nD) (t : Fin (cfgM m hO).N) (k : Fin 512) (j : Fin 512) (a : Fin 2048)
    (ha : a.val = ((cfgM m hO).win 2).index t (1 : Fin 2) * 512 + j.val) :
    right m hO c t (ix2 k j) = V m c main_v0 (ix2 k a) := by
  have h0 := (index_rel m hO t).2.1
  unfold right
  blk_ext [iblk, h0, ha]

/-- THE FIRST ARRAY AFTER THE REGION, on a written block: the largest absolute difference of the two columns that
    the element's coordinates name. -/
theorem upper_array (hO : Ok m) (c : Dev nD) (i : S2048x2048.Idx) (hi : (i 0).val / 256 / 2 ≤ (i 1).val / 512) :
    (dats m hO 0 c).arrAt 2 (cfgM m hO).N i = colGap (V m c main_v0) (i 1) (i 0) := by
  refine ((dats m hO 0 c).arrAt_emb_eq_of_coversWhere 2 (fun i : S2048x2048.Idx => colGap (V m c main_v0) (i 1) (i 0))
    (fun β => β (0 : Fin 2) / 2 ≤ β (1 : Fin 2)) (covers_upper m hO) (fun t hf y => ?_) i).trans (if_pos hi)
  blk_simp
  rw [after0_2]
  refine (upper_point m hO c t y).trans ?_
  unfold colGap
  congr 1 <;> funext k
  · refine right_apply m hO c t k _ _ ?_
    blk_simp
  · refine left_apply m hO c t k _ _ ?_
    blk_simp

/-- THE SECOND ARRAY AFTER THE REGION, on a written block. -/
theorem lower_array (hO : Ok m) (c : Dev nD) (i : S2048x2048.Idx) (hi : (i 1).val / 256 / 2 ≤ (i 0).val / 512) :
    (dats m hO 0 c).arrAt 3 (cfgM m hO).N i = colGap (V m c main_v0) (i 0) (i 1) := by
  refine ((dats m hO 0 c).arrAt_emb_eq_of_coversWhere 3 (fun i : S2048x2048.Idx => colGap (V m c main_v0) (i 0) (i 1))
    (fun β => β (1 : Fin 2) / 2 ≤ β (0 : Fin 2)) (covers_lower m hO) (fun t hf y => ?_) i).trans (if_pos hi)
  have h3 := (index_rel m hO t).2.2
  blk_simp
  rw [after0_3]
  refine (lower_point m hO c t y).trans ?_
  unfold colGap
  congr 1 <;> funext k
  · refine right_apply m hO c t k _ _ ?_
    blk_simp [h3]
  · refine left_apply m hO c t k _ _ ?_
    blk_simp [h3]

/-- The transposed input, entry by entry. -/
theorem transposed (c : Dev nD) (k : Fin 512) (a : Fin 2048) :
    V m c main_v0 (ix2 k a) = m ((c.tc : Thread nD τ).loc main_arg0) (ix2 a k) := by
  show StableHlo.after hostOps0 _ _ _ = _
  after_results
  pointwise

end Cert.KernelIdeal.Arrays

end
-- ==== Proof.Result.lean ====
module

public import proofs.«01_k».proof.Proof.Arrays
public import Idealize.ShloMosaic.Lib.Pipeline.ValueKit.Geometry
public import Idealize.ShloMosaic.Lib.Pointwise

@[expose] public section

set_option maxRecDepth 16384

noncomputable section

namespace Cert.KernelIdeal.Result

open Idealize.ShloMosaic Idealize.ShloMosaic.TcCoe Idealize.SL.Sem
open Cert.KernelIdeal Cert.KernelIdeal.Gen Cert.KernelIdeal.Table Cert.KernelIdeal.Arrays Cert.Dist WordCmp

variable (m : (ℓ : Loc nD τ sig) → Buf (Elt Ideal) ℓ)

/-- The host lines after the region, from any contents: the first array on and above the diagonal, the second below it. -/
theorem tail_select (W : Valuation τ sig (Elt Ideal)) :
    StableHlo.after (hostOps1 ++ hostOps1_1) W (Proc.devRef .tc main_v5)
      = select (cmpi .sge (iotaInDim S2048x2048 32 1) (iotaInDim S2048x2048 32 0))
          (W (Proc.devRef .tc main_v1_0)) (W (Proc.devRef .tc main_v1_1)) := by
  rw [show (hostOps1 ++ hostOps1_1 : List (HloOp τ sig (Elt Ideal)))
    = [ StableHlo.nullary main_v2 (iotaInDim S2048x2048 32 0),
        StableHlo.nullary main_v3 (iotaInDim S2048x2048 32 1),
        StableHlo.binary main_v3 main_v2 main_v4 (cmpi .sge : (⟨S2048x2048, .i32⟩ : BufTy).Contents (Elt Ideal) → (⟨S2048x2048, .i32⟩ : BufTy).Contents (Elt Ideal) → (⟨S2048x2048, .i1⟩ : BufTy).Contents (Elt Ideal)),
        StableHlo.ternary main_v4 main_v1_0 main_v1_1 main_v5 select ] from rfl]
  after_results

/-- The result as a function of the input: at `(r, c)` the largest absolute difference of rows `r` and `c`. -/
def dists (x : Vec Ideal S2048x512 .f32) : Vec Ideal S2048x2048 .f32 :=
  fun i => linf (fun k => x (ix2 (i 0) k)) fun k => x (ix2 (i 1) k)

/-- A gap of two columns of the transposed input is a gap of two of the input's rows. -/
theorem colGap_rows (c : Dev nD) (a b : Fin 2048) :
    colGap (V m c main_v0) a b
      = linf (fun k => m ((c.tc : Thread nD τ).loc main_arg0) (ix2 a k)) fun k => m ((c.tc : Thread nD τ).loc main_arg0) (ix2 b k) := by
  unfold colGap
  congr 1 <;> funext k <;> exact transposed m c k _

/-- THE RESULT BUFFER after the host lines that follow the region. -/
theorem tail_eq (hO : Ok m) (c : Dev nD) :
    Pipeline.afterTail pcfgs (fun _ => adm m hO) (dats m hO) 0 (V0 m) [hostOps1, hostOps1_1] c main_v5
      = dists (m ((c.tc : Thread nD τ).loc main_arg0)) := by
  unfold Pipeline.afterTail
  refine (tail_select _).trans ?_
  rw [show Pipeline.withArrays (Pipeline.pin pcfgs (fun _ => adm m hO) 0).spec c (V0 m c)
        (fun w => (dats m hO 0 c).arrAt w (Pipeline.pin pcfgs (fun _ => adm m hO) 0).N) (Proc.devRef .tc main_v1_0)
        = (dats m hO 0 c).arrAt 2 (cfgM m hO).N from (dats m hO 0 c).withArrays_arrAt sharedIn0 (V0 m c) (A_eq m hO c) 2,
    show Pipeline.withArrays (Pipeline.pin pcfgs (fun _ => adm m hO) 0).spec c (V0 m c)
        (fun w => (dats m hO 0 c).arrAt w (Pipeline.pin pcfgs (fun _ => adm m hO) 0).N) (Proc.devRef .tc main_v1_1)
        = (dats m hO 0 c).arrAt 3 (cfgM m hO).N from (dats m hO 0 c).withArrays_arrAt sharedIn0 (V0 m c) (A_eq m hO c) 3]
  funext i
  obtain ⟨r, s, rfl⟩ : ∃ r s, i = ix2 r s := ⟨i 0, i 1, by funext a; fin_cases a <;> rfl⟩
  pointwise
  have hr : r.val < 2 ^ (32 - 1) := lt_trans r.isLt (by norm_num)
  have hs : s.val < 2 ^ (32 - 1) := lt_trans s.isLt (by norm_num)
  rw [cmpi_sge_ofNat hs hr]
  by_cases h : r.val ≤ s.val
  · rw [decide_eq_true h]
    refine (ValueIdx.select_one _ _).trans ((upper_array m hO c (ix2 r s) ?_).trans ?_)
    · show r.val / 256 / 2 ≤ s.val / 512
      omega
    · refine (colGap_rows m c s r).trans ?_
      exact linf_comm _ _
  · rw [decide_eq_false h]
    refine (ValueIdx.select_zero _ _).trans ((lower_array m hO c (ix2 r s) ?_).trans ?_)
    · show s.val / 256 / 2 ≤ r.val / 512
      omega
    · exact colGap_rows m c r s

/-- THE RUN'S VALUE: the result buffer ends at the pairwise distances and the argument is unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = dists (m ((c.tc : Thread nD τ).loc main_arg0))
      ∧ r.2.mem ((c.tc : Thread nD τ).loc main_arg0) = m ((c.tc : Thread nD τ).loc main_arg0)) := by
  refine (θ_run defs _ _).mono (fun r h c => ⟨?_, h.2 c⟩) (θ_run_and (run_main m ρ (ok m)) (unchanged m ρ (ok m)))
  exact (Pipeline.FramePost.rest_eq h.1 c main_v5 (show main_v5 ∈ Pipeline.restRefs sig spec0 by decide)).trans (tail_eq m (ok m) c)

end Cert.KernelIdeal.Result

end
-- ==== Proof.Reference.lean ====
module

public import proofs.«01_k».proof.Proof.Dist
public import proofs.«01_k».proof.Proof.Gen.ReferenceIdeal.Run
public import Idealize.ShloMosaic.PureOps.Ideal
public import Idealize.ShloMosaic.Lib.Pointwise
public import Idealize.ShloMosaic.Lib.WordCmp

@[expose] public section

set_option maxRecDepth 16384

noncomputable section

namespace Cert.ReferenceIdeal.Rows

open Idealize.ShloMosaic Idealize.ShloMosaic.TcCoe Idealize.ShloMosaic.StableHlo Idealize.SL.Sem
open Cert.ReferenceIdeal Cert.ReferenceIdeal.Gen Cert.ReferenceIdeal.Value Cert.Dist

/-- The reference's result as a function of the input: at `(r, c)` the largest absolute difference of rows `r` and `c`. -/
def dists (x : Vec Ideal S2048x512 .f32) : Vec Ideal S2048x2048 .f32 :=
  fun i => linf (fun k => x (ix2 (i 0) k)) fun k => x (ix2 (i 1) k)

/-- Row `k` cut out of the input by a dynamic slice and flattened, entry by entry. -/
theorem row_apply (x : Vec Ideal S2048x512 .f32) (start : Fin 2 → Int) (k : Fin 2048) (h0 : start 0 = (k.val : Int))
    (h1 : start 1 = ((0 : Nat) : Int)) (j : Fin 512) :
    shapeCast S512 (Host.dynamicSlice S1x512 x start sliceFits_S2048x512_S1x512) shapeCasts_S1x512_S512 (ix1 j)
      = x (ix2 k j) := by
  have hk := k.isLt
  rw [WordCmp.dynamicSlice_eq_extract S1x512 x start sliceFits_S2048x512_S1x512 ![k.val, 0]
    ⟨rfl, fun a => by fin_cases a <;> simp <;> omega⟩ (fun a => by fin_cases a; exacts [h0, h1])]
  pointwise

/-- The distances of one row of the input to every row, as the loop's body computes them. -/
theorem gaps_apply (x : Vec Ideal S2048x512 .f32) (v : Vec Ideal S512 .f32) (s : Fin 2048) :
    Host.reduce (α := Ideal .f32) FloatOps.maximumf (Host.absf (subf (broadcastInDim S2048x512 ![0, 1] bcast_S1x512_S2048x512_0_1
      (broadcastInDim S1x512 ![1] bcast_S512_S1x512_1 v)) x)) (constant S_ .f32 0xFF800000#32) reducesTo_S2048x512_S2048_d1 h_S_ (ix1 s)
      = linf (fun j => v (ix1 j)) fun j => x (ix2 s j) := by
  rw [Host.reduce_eq_fold_single FloatOps.maximumf _ _ reducesTo_S2048x512_S2048_d1 (by decide) h_S_]
  refine Finset.fold_congr fun j _ => ?_
  have hl : Shape.Reduces.lift (s := S2048x512) (a := 1) (t := S2048) (by decide) (ix1 s) j = ix2 s j := by
    funext a
    fin_cases a <;> rfl
  rw [Function.comp_apply, hl]
  pointwise
  rfl

/-- One row written into the result at row `k`, entry by entry. -/
theorem put_apply (y : Vec Ideal S2048x2048 .f32) (u : Vec Ideal S2048 .f32) (start : Fin 2 → Int) (k r s : Fin 2048)
    (h0 : start 0 = (k.val : Int)) (h1 : start 1 = ((0 : Nat) : Int)) :
    Host.dynamicUpdateSlice y (broadcastInDim S1x2048 ![1] bcast_S2048_S1x2048_1 u) start updateFits_S2048x2048_S1x2048 (ix2 r s)
      = if r = k then u (ix1 s) else y (ix2 r s) := by
  have hk := k.isLt
  have c0 : Host.clampedStart S2048x2048 S1x2048 updateFits_S2048x2048_S1x2048.1 start 0 = k.val :=
    Host.clampedStart_of_le (s := S2048x2048) (t := S1x2048) _ start 0 k.val h0 (by show k.val + 1 ≤ 2048; omega)
  have c1 : Host.clampedStart S2048x2048 S1x2048 updateFits_S2048x2048_S1x2048.1 start 1 = 0 :=
    Host.clampedStart_of_le (s := S2048x2048) (t := S1x2048) _ start 1 0 h1 (by show 0 + 2048 ≤ 2048; omega)
  rw [Host.dynamicUpdateSlice_apply]
  by_cases hr : r = k
  · subst hr
    rw [if_pos rfl, dif_pos]
    · pointwise
      exact congrArg (fun q => u (ix1 q)) (Fin.ext (by show s.val - _ = s.val; rw [c1, Nat.sub_zero]))
    · intro a
      fin_cases a
      · show Host.clampedStart S2048x2048 S1x2048 updateFits_S2048x2048_S1x2048.1 start 0 ≤ r.val ∧ r.val < Host.clampedStart S2048x2048 S1x2048 updateFits_S2048x2048_S1x2048.1 start 0 + 1
        rw [c0]; omega
      · show Host.clampedStart S2048x2048 S1x2048 updateFits_S2048x2048_S1x2048.1 start 1 ≤ s.val ∧ s.val < Host.clampedStart S2048x2048 S1x2048 updateFits_S2048x2048_S1x2048.1 start 1 + 2048
        rw [c1]; exact ⟨Nat.zero_le _, by have := s.isLt; omega⟩
  · rw [if_neg hr, dif_neg]
    intro h
    have h2 : Host.clampedStart S2048x2048 S1x2048 updateFits_S2048x2048_S1x2048.1 start 0 ≤ r.val
      ∧ r.val < Host.clampedStart S2048x2048 S1x2048 updateFits_S2048x2048_S1x2048.1 start 0 + 1 := h 0
    rw [c0] at h2
    exact hr (Fin.ext (by omega))

/-- What the loop holds after `k` trips on input `x`: the two copies of the input, the count, and the first `k` rows of
    the result. -/
structure Holds (x : Vec Ideal S2048x512 .f32) (k : Nat) (V : Valuation τ sig (Elt Ideal)) : Prop where
  left : V (Proc.devRef .tc main_v1_0) = x
  right : V (Proc.devRef .tc main_v1_1) = x
  count : V (Proc.devRef .tc main_v1_2) = fun _ => BitVec.ofNat 32 k
  rows : ∀ r s : Fin 2048, r.val < k →
    (V (Proc.devRef .tc main_v1_3) : Vec Ideal S2048x2048 .f32) (ix2 r s) = dists x (ix2 r s)

/-- One trip writes one more row. -/
theorem Holds.step {x : Vec Ideal S2048x512 .f32} {k : Nat} {V : Valuation τ sig (Elt Ideal)} (hk : k < 2048)
    (h : Holds x k V) : Holds x (k + 1) (STEP V) where
  left := (STEP_main_v1_0 V).trans h.left
  right := (STEP_main_v1_1 V).trans h.right
  count := by
    rw [STEP_main_v1_2, step_main_v1_2, h.count]
    funext i
    exact (BitVec.ofNat_add k 1).symm
  rows := fun r s hr => by
    have hw : (BitVec.ofNat 32 k).toInt = (k : Int) := by
      rw [BitVec.toInt_eq_toNat_of_lt (by rw [BitVec.toNat_ofNat]; omega), BitVec.toNat_ofNat]
      omega
    rw [STEP_main_v1_3, step_main_v1_3, h.left, h.right, h.count]
    refine (put_apply (V (Proc.devRef .tc main_v1_3)) _ _ ⟨k, hk⟩ r s hw rfl).trans ?_
    by_cases e : r = ⟨k, hk⟩
    · rw [if_pos e, gaps_apply]
      refine congrArg (fun f => linf f _) (funext fun j => ?_)
      rw [row_apply x _ r (by subst e; exact hw) rfl]
      rfl
    · rw [if_neg e]
      exact h.rows r s (by have : r.val ≠ k := fun e' => e (Fin.ext e'); omega)

variable (m : (ℓ : Loc nD τ sig) → Buf (Elt Ideal) ℓ)

/-- The loop starts from two copies of the input and a count of zero. -/
theorem holds_entry (c : Dev nD) : Holds (m ((c.tc : Thread nD τ).loc main_arg0)) 0 (entryContents preI m c) where
  left := by
    show after hostOps0 _ _ = _
    after_results
    rfl
  right := by
    show after hostOps0 _ _ = _
    after_results
    rfl
  count := ctr_entry m c
  rows := fun r s h => absurd h (Nat.not_lt_zero _)

/-- The invariant after any number of trips up to 2048. -/
theorem holds_iterate (c : Dev nD) : ∀ k, k ≤ 2048 →
    Holds (m ((c.tc : Thread nD τ).loc main_arg0)) k (STEP^[k] (entryContents preI m c))
  | 0, _ => holds_entry m c
  | k + 1, hk => by
    rw [Function.iterate_succ_apply']
    exact (holds_iterate c k (by omega)).step (by omega)

/-- THE REFERENCE'S VALUE: its result ends at the pairwise distances and the argument is unchanged. -/
theorem run_dists (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_3) = dists (m ((c.tc : Thread nD τ).loc main_arg0))
      ∧ r.2.mem ((c.tc : Thread nD τ).loc main_arg0) = m ((c.tc : Thread nD τ).loc main_arg0) := by
  refine (θ_run (defs (F := Ideal)) _ _).mono (fun r h c => ⟨(h c).1.trans (funext fun i => ?_), (h c).2⟩) (Value.run m ρ)
  obtain ⟨a, b, rfl⟩ : ∃ a b, i = ix2 a b := ⟨i 0, i 1, by funext a; fin_cases a <;> rfl⟩
  exact (holds_iterate m c 2048 le_rfl).rows a b a.isLt

/-- The reference terminates with its argument unchanged, and it declares no semaphore. -/
theorem frame (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)) ∧ r.2.sem = fun _ => 0 :=
  (θ_run (defs (F := Ideal)) _ _).mono (fun r h => ⟨fun c => (h c).2, sem_eq_zero_of_no_sems (by decide) r.2⟩) (run_dists m ρ)

end Cert.ReferenceIdeal.Rows

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelTable
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The five claims: the three frames, the idealization (nothing was replaced), and the equation of the idealized
    kernel and the reference over the extended reals, for the kernel's one result. -/
theorem claim : Cert.Claim := ⟨Cert.Kernel.Gen.facts, Cert.KernelIdeal.Gen.facts, Cert.ReferenceIdeal.Gen.facts,
  fun m ρ _ => Cert.Kernel.Gen.frame m ρ (Cert.Kernel.Table.ok m),
  fun m ρ _ => Cert.KernelIdeal.Gen.frame m ρ (Cert.KernelIdeal.Table.ok m),
  fun m ρ _ => Cert.ReferenceIdeal.Rows.frame m ρ,
  trivial,
  fun m ρ m' ρ' _ hm => ⟨fun c => Cert.KernelIdeal.Result.dists (m ((c.tc : Thread Cert.KernelIdeal.nD Cert.KernelIdeal.τ).loc Cert.KernelIdeal.main_arg0)),
    Cert.KernelIdeal.Result.run m ρ,
    (θ_run (Cert.ReferenceIdeal.defs (F := Ideal)) _ _).mono
      (fun _ h c => ⟨(h c).1.trans (congrArg Cert.ReferenceIdeal.Rows.dists (hm c)), (h c).2⟩)
      (Cert.ReferenceIdeal.Rows.run_dists m' ρ')⟩⟩

end Cert.Proof

end
